-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_name_rows [hPre_indices_name_rows : Cert.Pre_indices_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_indices_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_name_rows [hPre_indices_name_rows : Cert.Pre_indices_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_indices_name_rows [hKernelIdeal : Cert.KernelIdeal.Facts] [hPre_indices_name_rows : Cert.Pre_indices_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_name_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_indices_name_rows [hReferenceIdeal : Cert.ReferenceIdeal.Facts] [hPre_indices_name_rows : Cert.Pre_indices_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_indices_name_rows [hKernelIdeal : Cert.KernelIdeal.Facts] [hReferenceIdeal : Cert.ReferenceIdeal.Facts] [hPre_indices_name_rows : Cert.Pre_indices_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_name_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_indices_name_rows : Cert.Pre_indices_name_rows.Facts),
    quiescent_Kernel (hKernel := hKernel)
    ∧ quiescent_KernelIdeal (hKernelIdeal := hKernelIdeal)
    ∧ quiescent_KernelIdeal_pre_indices_name_rows (hKernelIdeal := hKernelIdeal) (hPre_indices_name_rows := hPre_indices_name_rows)
    ∧ quiescent_ReferenceIdeal (hReferenceIdeal := hReferenceIdeal)
    ∧ quiescent_ReferenceIdeal_pre_indices_name_rows (hReferenceIdeal := hReferenceIdeal) (hPre_indices_name_rows := hPre_indices_name_rows)
    ∧ preserves_Kernel_KernelIdeal
    ∧ algebraic_KernelIdeal_ReferenceIdeal_pre_indices_name_rows (hKernelIdeal := hKernelIdeal) (hReferenceIdeal := hReferenceIdeal) (hPre_indices_name_rows := hPre_indices_name_rows)
-- ==== Pre_indices_name_rows.lean ====
abbrev S16384 : Shape := ⟨1, ![16384]⟩
abbrev S16384x256 : Shape := ⟨2, ![16384, 256]⟩
abbrev S16384x512 : Shape := ⟨2, ![16384, 512]⟩
abbrev S129x32 : Shape := ⟨2, ![129, 32]⟩
abbrev S65x32 : Shape := ⟨2, ![65, 32]⟩
abbrev S256x32 : Shape := ⟨2, ![256, 32]⟩
abbrev S32 : Shape := ⟨1, ![32]⟩
abbrev S512x32 : Shape := ⟨2, ![512, 32]⟩
abbrev S129x128 : Shape := ⟨2, ![129, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S16384x256 .f32) (main_arg3 : FVec F S16384x512 .f32) (main_arg4 : FVec F S16384 .f32) (main_arg5 : FVec F S129x32 .f32) (main_arg6 : FVec F S65x32 .f32) (main_arg7 : FVec F S256x32 .f32) (main_arg8 : FVec F S32 .f32) (main_arg9 : FVec F S512x32 .f32) (main_arg10 : FVec F S32 .f32) (main_arg11 : FVec F S129x128 .f32) (main_arg12 : FVec F S128 .f32) (main_arg13 : FVec F S128x64 .f32) (main_arg14 : FVec F S64 .f32) (main_arg15 : FVec F S64x32 .f32) (main_arg16 : FVec F S32 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 129#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 65#32
  let main_v8 : IVec S16384 32 := broadcastInDim S16384 ![] bcast_S_S16384 main_c_2
  let main_v9 : IVec S16384 1 := cmpi .slt main_arg1 main_v8
  let main_v10 : IVec S16384 1 := andi main_v7 main_v9
  main_v10
-- ==== Kernel.lean ====
abbrev S16384 : Shape := ⟨1, ![16384]⟩
abbrev S16384x256 : Shape := ⟨2, ![16384, 256]⟩
abbrev S16384x512 : Shape := ⟨2, ![16384, 512]⟩
abbrev S129x32 : Shape := ⟨2, ![129, 32]⟩
abbrev S65x32 : Shape := ⟨2, ![65, 32]⟩
abbrev S256x32 : Shape := ⟨2, ![256, 32]⟩
abbrev S32 : Shape := ⟨1, ![32]⟩
abbrev S512x32 : Shape := ⟨2, ![512, 32]⟩
abbrev S129x128 : Shape := ⟨2, ![129, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S128x128 : Shape := ⟨2, ![128, 128]⟩
abbrev S1x32 : Shape := ⟨2, ![1, 32]⟩
abbrev S1x128 : Shape := ⟨2, ![1, 128]⟩
abbrev S1x64 : Shape := ⟨2, ![1, 64]⟩
abbrev S16384x32 : Shape := ⟨2, ![16384, 32]⟩
abbrev S2048x256 : Shape := ⟨2, ![2048, 256]⟩
abbrev S2048x512 : Shape := ⟨2, ![2048, 512]⟩
abbrev S_ : Shape := ⟨0, ![]⟩
abbrev S128x129 : Shape := ⟨2, ![128, 129]⟩
abbrev S128x65 : Shape := ⟨2, ![128, 65]⟩
abbrev S2048x32 : Shape := ⟨2, ![2048, 32]⟩
abbrev S128x1 : Shape := ⟨2, ![128, 1]⟩
abbrev S2048x129 : Shape := ⟨2, ![2048, 129]⟩
abbrev S2048x65 : Shape := ⟨2, ![2048, 65]⟩
abbrev S2048x1 : Shape := ⟨2, ![2048, 1]⟩
abbrev S2048x128 : Shape := ⟨2, ![2048, 128]⟩
abbrev S2048x64 : Shape := ⟨2, ![2048, 64]⟩

abbrev nBuf : Space → Nat
  | .hbm => 29
  | .vmem => 22
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x256, .f32⟩
  | .hbm, ⟨3, _⟩ => ⟨S16384x512, .f32⟩
  | .hbm, ⟨4, _⟩ => ⟨S16384, .f32⟩
  | .hbm, ⟨5, _⟩ => ⟨S129x32, .f32⟩
  | .hbm, ⟨6, _⟩ => ⟨S65x32, .f32⟩
  | .hbm, ⟨7, _⟩ => ⟨S256x32, .f32⟩
  | .hbm, ⟨8, _⟩ => ⟨S32, .f32⟩
  | .hbm, ⟨9, _⟩ => ⟨S512x32, .f32⟩
  | .hbm, ⟨10, _⟩ => ⟨S32, .f32⟩
  | .hbm, ⟨11, _⟩ => ⟨S129x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .f32⟩
  | .hbm, ⟨22, _⟩ => ⟨S128x128, .f32⟩
  | .hbm, ⟨23, _⟩ => ⟨S1x32, .f32⟩
  | .hbm, ⟨24, _⟩ => ⟨S1x32, .f32⟩
  | .hbm, ⟨25, _⟩ => ⟨S1x128, .f32⟩
  | .hbm, ⟨26, _⟩ => ⟨S1x64, .f32⟩
  | .hbm, ⟨27, _⟩ => ⟨S1x32, .f32⟩
  | .hbm, ⟨28, _⟩ => ⟨S16384x32, .f32⟩
  | .local _ .vmem, ⟨0, _⟩ => ⟨S128x128, .i32⟩
  | .local _ .vmem, ⟨1, _⟩ => ⟨S128x128, .i32⟩
  | .local _ .vmem, ⟨2, _⟩ => ⟨S128x128, .f32⟩
  | .local _ .vmem, ⟨3, _⟩ => ⟨S129x32, .f32⟩
  | .local _ .vmem, ⟨4, _⟩ => ⟨S65x32, .f32⟩
  | .local _ .vmem, ⟨5, _⟩ => ⟨S256x32, .f32⟩
  | .local _ .vmem, ⟨6, _⟩ => ⟨S1x32, .f32⟩
  | .local _ .vmem, ⟨7, _⟩ => ⟨S512x32, .f32⟩
  | .local _ .vmem, ⟨8, _⟩ => ⟨S1x32, .f32⟩
  | .local _ .vmem, ⟨9, _⟩ => ⟨S129x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x32, .f32⟩
  | .local _ .vmem, ⟨14, _⟩ => ⟨S1x32, .f32⟩
  | .local _ .vmem, ⟨15, _⟩ => ⟨S16384x32, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v0 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S128x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S129x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S129x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16384x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S16384 : Shape := ⟨1, ![16384]⟩
abbrev S16384x256 : Shape := ⟨2, ![16384, 256]⟩
abbrev S16384x512 : Shape := ⟨2, ![16384, 512]⟩
abbrev S129x32 : Shape := ⟨2, ![129, 32]⟩
abbrev S65x32 : Shape := ⟨2, ![65, 32]⟩
abbrev S256x32 : Shape := ⟨2, ![256, 32]⟩
abbrev S32 : Shape := ⟨1, ![32]⟩
abbrev S512x32 : Shape := ⟨2, ![512, 32]⟩
abbrev S129x128 : Shape := ⟨2, ![129, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S1x32 : Shape := ⟨2, ![1, 32]⟩
abbrev S16384x129 : Shape := ⟨2, ![16384, 129]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 105
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x256, .f32⟩
  | .hbm, ⟨3, _⟩ => ⟨S16384x512, .f32⟩
  | .hbm, ⟨4, _⟩ => ⟨S16384, .f32⟩
  | .hbm, ⟨5, _⟩ => ⟨S129x32, .f32⟩
  | .hbm, ⟨6, _⟩ => ⟨S65x32, .f32⟩
  | .hbm, ⟨7, _⟩ => ⟨S256x32, .f32⟩
  | .hbm, ⟨8, _⟩ => ⟨S32, .f32⟩
  | .hbm, ⟨9, _⟩ => ⟨S512x32, .f32⟩
  | .hbm, ⟨10, _⟩ => ⟨S32, .f32⟩
  | .hbm, ⟨11, _⟩ => ⟨S129x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S1, .i32⟩
  | .hbm, ⟨26, _⟩ => ⟨S_, .i32⟩
  | .hbm, ⟨27, _⟩ => ⟨S16384x1, .i32⟩
  | .hbm, ⟨28, _⟩ => ⟨S16384x1, .i1⟩
  | .hbm, ⟨29, _⟩ => ⟨S1x1, .i32⟩
  | .hbm, ⟨30, _⟩ => ⟨S16384x1, .i32⟩
  | .hbm, ⟨31, _⟩ => ⟨S16384x1, .i1⟩
  | .hbm, ⟨32, _⟩ => ⟨S16384x1, .i1⟩
  | .hbm, ⟨33, _⟩ => ⟨S_, .i1⟩
  | .hbm, ⟨34, _⟩ => ⟨S16384, .i1⟩
  | .hbm, ⟨35, _⟩ => ⟨S16384x32, .f32⟩
  | .hbm, ⟨36, _⟩ => ⟨S16384x32, .i1⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S1, .i32⟩
  | .hbm, ⟨49, _⟩ => ⟨S_, .i32⟩
  | .hbm, ⟨50, _⟩ => ⟨S16384x1, .i32⟩
  | .hbm, ⟨51, _⟩ => ⟨S16384x1, .i1⟩
  | .hbm, ⟨52, _⟩ => ⟨S1x1, .i32⟩
  | .hbm, ⟨53, _⟩ => ⟨S16384x1, .i32⟩
  | .hbm, ⟨54, _⟩ => ⟨S16384x1, .i1⟩
  | .hbm, ⟨55, _⟩ => ⟨S16384x1, .i1⟩
  | .hbm, ⟨56, _⟩ => ⟨S_, .i1⟩
  | .hbm, ⟨57, _⟩ => ⟨S16384, .i1⟩
  | .hbm, ⟨58, _⟩ => ⟨S16384x32, .f32⟩
  | .hbm, ⟨59, _⟩ => ⟨S16384x32, .i1⟩
  | .hbm, ⟨60, _⟩ => ⟨S_, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S1x32, .f32⟩
  | .hbm, ⟨65, _⟩ => ⟨S16384x32, .f32⟩
  | .hbm, ⟨66, _⟩ => ⟨S16384x32, .f32⟩
  | .hbm, ⟨67, _⟩ => ⟨S_, .f32⟩
  | .hbm, ⟨68, _⟩ => ⟨S16384x32, .f32⟩
  | .hbm, ⟨69, _⟩ => ⟨S16384x32, .f32⟩
  | .hbm, ⟨70, _⟩ => ⟨S16384x32, .f32⟩
  | .hbm, ⟨71, _⟩ => ⟨S1x32, .f32⟩
  | .hbm, ⟨72, _⟩ => ⟨S16384x32, .f32⟩
  | .hbm, ⟨73, _⟩ => ⟨S16384x32, .f32⟩
  | .hbm, ⟨74, _⟩ => ⟨S_, .f32⟩
  | .hbm, ⟨75, _⟩ => ⟨S16384x32, .f32⟩
  | .hbm, ⟨76, _⟩ => ⟨S16384x32, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S16384x129, .f32⟩
  | .hbm, ⟨87, _⟩ => ⟨S16384x128, .f32⟩
  | .hbm, ⟨88, _⟩ => ⟨S1x128, .f32⟩
  | .hbm, ⟨89, _⟩ => ⟨S16384x128, .f32⟩
  | .hbm, ⟨90, _⟩ => ⟨S16384x128, .f32⟩
  | .hbm, ⟨91, _⟩ => ⟨S_, .f32⟩
  | .hbm, ⟨92, _⟩ => ⟨S16384x128, .f32⟩
  | .hbm, ⟨93, _⟩ => ⟨S16384x128, .f32⟩
  | .hbm, ⟨94, _⟩ => ⟨S16384x64, .f32⟩
  | .hbm, ⟨95, _⟩ => ⟨S1x64, .f32⟩
  | .hbm, ⟨96, _⟩ => ⟨S16384x64, .f32⟩
  | .hbm, ⟨97, _⟩ => ⟨S16384x64, .f32⟩
  | .hbm, ⟨98, _⟩ => ⟨S_, .f32⟩
  | .hbm, ⟨99, _⟩ => ⟨S16384x64, .f32⟩
  | .hbm, ⟨100, _⟩ => ⟨S16384x64, .f32⟩
  | .hbm, ⟨101, _⟩ => ⟨S16384x32, .f32⟩
  | .hbm, ⟨102, _⟩ => ⟨S1x32, .f32⟩
  | .hbm, ⟨103, _⟩ => ⟨S16384x32, .f32⟩
  | .hbm, ⟨104, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_call2_cst : Ref sig .tc := ⟨.hbm, 67, rfl⟩
abbrev main_call2_v0 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_call3_cst : Ref sig .tc := ⟨.hbm, 74, rfl⟩
abbrev main_call3_v0 : Ref sig .tc := ⟨.hbm, 75, rfl⟩
abbrev main_v11 : Ref sig .tc := ⟨.hbm, 76, rfl⟩
abbrev main_cst : Ref sig .tc := ⟨.hbm, 77, rfl⟩
abbrev main_v12 : Ref sig .tc := ⟨.hbm, 78, rfl⟩
abbrev main_v13 : Ref sig .tc := ⟨.hbm, 79, rfl⟩
abbrev main_cst_0 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_call4_cst : Ref sig .tc := ⟨.hbm, 91, rfl⟩
abbrev main_call4_v0 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_call5_cst : Ref sig .tc := ⟨.hbm, 98, rfl⟩
abbrev main_call5_v0 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩

abbrev nD : Nat := 1
abbrev τ : Topo := Topo.v7x

variable {F : FTy → Type} [FloatOps F]
-- ==== Proof.Tile.lean ====
/- WHAT ONE TILE COMPUTES: the value that the kernel stores for 2048 consecutive rows, as one function of the
   weights, of the tile's rows of the two dense inputs, and of its 16 columns of each transposed index array. -/
module

public import proofs.«01_k».proof.Proof.Gen.KernelIdeal

@[expose] public section

noncomputable section

namespace Cert.Tile

open Cert.KernelIdeal Cert.KernelIdeal.Gen Idealize.ShloMosaic

variable {F : FTy → Type} [FloatOps F]

/-- One column of 128 major indices as 128 one-hot rows of width 129. -/
def hotMajor (v : Vec F S128x1 .i32) : FVec F S128x129 .bf16 :=
  truncf .bf16 (sitofp .f32 (extui 32 (cmpi .eq
    (broadcastTo S128x129 (shapeCast S128x1 v shapeCasts_S128x1_S128x1 : IVec S128x1 32) broadcasts_S128x1_S128x129)
    (iota .tc S128x129 32 [1] iota_S128x129_d1_w32)) natLt_1_32)) bitsLt_bf16_f32

/-- One column of 128 career indices as 128 one-hot rows of width 65. -/
def hotCareer (v : Vec F S128x1 .i32) : FVec F S128x65 .bf16 :=
  truncf .bf16 (sitofp .f32 (extui 32 (cmpi .eq
    (broadcastTo S128x65 (shapeCast S128x1 v shapeCasts_S128x1_S128x1 : IVec S128x1 32) broadcasts_S128x1_S128x65)
    (iota .tc S128x65 32 [1] iota_S128x65_d1_w32)) natLt_1_32)) bitsLt_bf16_f32

/-- Sixteen stacks of rows on top of each other, as a list. -/
abbrev sixteen {S : Shape} {α : Type} (c : Fin 16 → (S.Idx → α)) : List ((s : Shape) × (s.Idx → α)) :=
  [⟨S, c 0⟩, ⟨S, c 1⟩, ⟨S, c 2⟩, ⟨S, c 3⟩, ⟨S, c 4⟩, ⟨S, c 5⟩, ⟨S, c 6⟩, ⟨S, c 7⟩,
   ⟨S, c 8⟩, ⟨S, c 9⟩, ⟨S, c 10⟩, ⟨S, c 11⟩, ⟨S, c 12⟩, ⟨S, c 13⟩, ⟨S, c 14⟩, ⟨S, c 15⟩]

/-- The tile's rows of the major table: the one-hot rows of its 16 columns times the table. -/
def majors (tab : Vec F S129x32 .f32) (c : Fin 16 → Vec F S128x1 .i32) : FVec F S2048x32 .bf16 :=
  truncf .bf16 (matmul dot_S2048x129_S129x32_S2048x32_1_0_0_1_n_n none
    (concatenate S2048x129 0 (sixteen fun g => hotMajor (F := F) (c g))
      concatenates_S128x129_S128x129_S128x129_S128x129_S128x129_S128x129_S128x129_S128x129_S128x129_S128x129_S128x129_S128x129_S128x129_S128x129_S128x129_S128x129_S2048x129_d0)
    (truncf .bf16 tab bitsLt_bf16_f32) (constant S2048x32 .f32 0x00000000#32)) bitsLt_bf16_f32

/-- The tile's rows of the career table, likewise. -/
def careers (tab : Vec F S65x32 .f32) (c : Fin 16 → Vec F S128x1 .i32) : FVec F S2048x32 .bf16 :=
  truncf .bf16 (matmul dot_S2048x65_S65x32_S2048x32_1_0_0_1_n_n none
    (concatenate S2048x65 0 (sixteen fun g => hotCareer (F := F) (c g))
      concatenates_S128x65_S128x65_S128x65_S128x65_S128x65_S128x65_S128x65_S128x65_S128x65_S128x65_S128x65_S128x65_S128x65_S128x65_S128x65_S128x65_S2048x65_d0)
    (truncf .bf16 tab bitsLt_bf16_f32) (constant S2048x32 .f32 0x00000000#32)) bitsLt_bf16_f32

/-- The tile's interest features: the rectified affine image of its rows of `interests`. -/
def interestFeat (x : Vec F S2048x256 .f32) (w : Vec F S256x32 .f32) (b : Vec F S1x32 .f32) : FVec F S2048x32 .bf16 :=
  truncf .bf16 (maximumf (addf (matmul dot_S2048x256_S256x32_S2048x32_1_0_0_1_n_n none
      (truncf .bf16 x bitsLt_bf16_f32) (truncf .bf16 w bitsLt_bf16_f32) (constant S2048x32 .f32 0x00000000#32))
    (broadcastTo S2048x32 (shapeCast S1x32 b shapeCasts_S1x32_S1x32) broadcasts_S1x32_S2048x32))
    (broadcast S2048x32 (Scalar.ofBits .f32 0x00000000#32))) bitsLt_bf16_f32

/-- The tile's course features: the rectified affine image of its rows of `completed_courses`. -/
def courseFeat (x : Vec F S2048x512 .f32) (w : Vec F S512x32 .f32) (b : Vec F S1x32 .f32) : FVec F S2048x32 .bf16 :=
  truncf .bf16 (maximumf (addf (matmul dot_S2048x512_S512x32_S2048x32_1_0_0_1_n_n none
      (truncf .bf16 x bitsLt_bf16_f32) (truncf .bf16 w bitsLt_bf16_f32) (constant S2048x32 .f32 0x00000000#32))
    (broadcastTo S2048x32 (shapeCast S1x32 b shapeCasts_S1x32_S1x32) broadcasts_S1x32_S2048x32))
    (broadcast S2048x32 (Scalar.ofBits .f32 0x00000000#32))) bitsLt_bf16_f32

/-- The tile's normalised grades: its 16 columns stacked, minus the mean, times the reciprocal of the deviation. -/
def grades (c : Fin 16 → Vec F S128x1 .f32) : FVec F S2048x1 .f32 :=
  mulf (subf (concatenate S2048x1 0 (sixteen fun g => (shapeCast S128x1 (c g) shapeCasts_S128x1_S128x1 : FVec F S128x1 .f32))
      concatenates_S128x1_S128x1_S128x1_S128x1_S128x1_S128x1_S128x1_S128x1_S128x1_S128x1_S128x1_S128x1_S128x1_S128x1_S128x1_S128x1_S2048x1_d0)
    (broadcast S2048x1 (Scalar.ofBits .f32 0x40400000#32)))
    (broadcast S2048x1 (Scalar.divf (Scalar.ofBits .f32 0x3F800000#32) (Scalar.sqrt (Scalar.ofBits .f32 0x3E800022#32))))

/-- The first layer before its bias: the four feature groups side by side times the first 128 rows of the weight,
    plus the grade times the weight's last row. -/
def layer1 (me ca ie ce : FVec F S2048x32 .bf16) (g : FVec F S2048x1 .f32) (w : Vec F S129x128 .f32)
    (wlast : Vec F S1x128 .f32) : FVec F S2048x128 .f32 :=
  addf (matmul dot_S2048x128_S128x128_S2048x128_1_0_0_1_n_n none
      (concatenate S2048x128 1 [⟨S2048x32, me⟩, ⟨S2048x32, ca⟩, ⟨S2048x32, ie⟩, ⟨S2048x32, ce⟩]
        concatenates_S2048x32_S2048x32_S2048x32_S2048x32_S2048x128_d1)
      (extractStridedSlice S128x128 ![0, 0] (truncf .bf16 w bitsLt_bf16_f32 : FVec F S129x128 .bf16) slices_S129x128_o0_0_S128x128)
      (constant S2048x128 .f32 0x00000000#32))
    (mulf (broadcastTo S2048x128 g broadcasts_S2048x1_S2048x128)
      (broadcastTo S2048x128 wlast broadcasts_S1x128_S2048x128))

/-- The first layer's output: bias added, rectified. -/
def hidden1 (h : FVec F S2048x128 .f32) (b : Vec F S1x128 .f32) : FVec F S2048x128 .bf16 :=
  truncf .bf16 (maximumf (addf h (broadcastTo S2048x128 (shapeCast S1x128 b shapeCasts_S1x128_S1x128) broadcasts_S1x128_S2048x128))
    (broadcast S2048x128 (Scalar.ofBits .f32 0x00000000#32))) bitsLt_bf16_f32

/-- The second layer's output. -/
def hidden2 (h : FVec F S2048x128 .bf16) (w : Vec F S128x64 .f32) (b : Vec F S1x64 .f32) : FVec F S2048x64 .bf16 :=
  truncf .bf16 (maximumf (addf (matmul dot_S2048x128_S128x64_S2048x64_1_0_0_1_n_n none h
      (truncf .bf16 w bitsLt_bf16_f32) (constant S2048x64 .f32 0x00000000#32))
    (broadcastTo S2048x64 (shapeCast S1x64 b shapeCasts_S1x64_S1x64) broadcasts_S1x64_S2048x64))
    (broadcast S2048x64 (Scalar.ofBits .f32 0x00000000#32))) bitsLt_bf16_f32

/-- The third layer's output, which is stored. -/
def layer3 (h : FVec F S2048x64 .bf16) (w : Vec F S64x32 .f32) (b : Vec F S1x32 .f32) : FVec F S2048x32 .f32 :=
  addf (matmul dot_S2048x64_S64x32_S2048x32_1_0_0_1_n_n none h
      (truncf .bf16 w bitsLt_bf16_f32) (constant S2048x32 .f32 0x00000000#32))
    (broadcastTo S2048x32 (shapeCast S1x32 b shapeCasts_S1x32_S1x32) broadcasts_S1x32_S2048x32)

/-- WHAT A TILE STORES, from its 16 columns of the index and grade arrays, its rows of the dense inputs and the weights. -/
def tile (mj ca : Fin 16 → Vec F S128x1 .i32) (gp : Fin 16 → Vec F S128x1 .f32)
    (xi : Vec F S2048x256 .f32) (xc : Vec F S2048x512 .f32)
    (mt : Vec F S129x32 .f32) (ct : Vec F S65x32 .f32) (wi : Vec F S256x32 .f32) (bi : Vec F S1x32 .f32)
    (wc : Vec F S512x32 .f32) (bc : Vec F S1x32 .f32) (w1 : Vec F S129x128 .f32) (wl : Vec F S1x128 .f32)
    (b1 : Vec F S1x128 .f32) (w2 : Vec F S128x64 .f32) (b2 : Vec F S1x64 .f32) (w3 : Vec F S64x32 .f32)
    (b3 : Vec F S1x32 .f32) : FVec F S2048x32 .f32 :=
  layer3 (hidden2 (hidden1 (layer1 (majors mt mj) (careers ct ca) (interestFeat xi wi bi) (courseFeat xc wc bc)
    (grades gp) w1 wl) b1) w2 b2) w3 b3

end Cert.Tile

end
-- ==== Proof.Pieces.lean ====
/- WHAT THE OUTPUT ARRAY HOLDS after the kernel's body: eight stores of 2048 rows each, every one of them the tile
   function at that tile's columns and rows, so the whole array is one function of its index. -/
module

public import proofs.«01_k».proof.Proof.Tile
public import proofs.«01_k».proof.Proof.Gen.KernelIdeal.Value
public import Idealize.ShloMosaic.Lib.VecWindow
public import Idealize.ShloMosaic.Lib.Pipeline.ValueKit.Tiles
public import Idealize.ShloMosaic.Lib.ValueIdxCore

@[expose] public section

set_option maxRecDepth 16384

noncomputable section

namespace Cert.Tile

open Cert.KernelIdeal Cert.KernelIdeal.Gen Idealize.ShloMosaic Idealize.ShloMosaic.TcCoe Idealize.SL.Sem
open Idealize.ShloMosaic.ValueIdx

variable {F : FTy → Type} [FloatOps F]

/-- Column `16 t + g` of a transposed array: the 128 entries that tile `t` uses as its `g`-th group. -/
def col {e : EltTy} (x : Vec F S128x128 e) (t : Fin 8) (g : Fin 16) : Vec F S128x1 e :=
  fun i => x (ix2 (i 0) (⟨16 * t.val + g.val, by omega⟩ : Fin 128))

/-- Rows `2048 t` to `2048 t + 2047` of an array of 16384 rows. -/
def rows {n : Nat} (f : Vec F ⟨2, ![16384, n]⟩ .f32) (t : Fin 8) : Vec F ⟨2, ![2048, n]⟩ .f32 :=
  fun i => f (ix2 (⟨2048 * t.val + (i 0).val, by have := idx2_lt0 i; omega⟩ : Fin 16384) (i 1))

/-- The last row of the first layer's weight. -/
def lastRow (w : Vec F S129x128 .f32) : Vec F S1x128 .f32 := fun i => w (ix2 (128 : Fin 129) (i 1))

/-- What tile `t` stores, from the whole arrays. -/
def tileAt (x0 x1 : Vec F S128x128 .i32) (x2 : Vec F S128x128 .f32) (fi : Vec F S16384x256 .f32) (fc : Vec F S16384x512 .f32)
    (x3 : Vec F S129x32 .f32) (x4 : Vec F S65x32 .f32) (x5 : Vec F S256x32 .f32) (x6 : Vec F S1x32 .f32)
    (x7 : Vec F S512x32 .f32) (x8 : Vec F S1x32 .f32) (x9 : Vec F S129x128 .f32) (x10 : Vec F S1x128 .f32)
    (x11 : Vec F S128x64 .f32) (x12 : Vec F S1x64 .f32) (x13 : Vec F S64x32 .f32) (x14 : Vec F S1x32 .f32) (t : Fin 8) :
    Vec F S2048x32 .f32 :=
  tile (col x0 t) (col x1 t) (col x2 t) (rows fi t) (rows fc t) x3 x4 x5 x6 x7 x8 x9 (lastRow x9) x10 x11 x12 x13 x14

/-- What the whole output array holds: row `i` is row `i mod 2048` of tile `i / 2048`. -/
def whole (f : Fin 8 → Vec F S2048x32 .f32) : Vec F S16384x32 .f32 := fun i =>
  f ⟨(i 0).val / 2048, by have := idx2_lt0 i; omega⟩ (ix2 (⟨(i 0).val % 2048, Nat.mod_lt _ (by decide)⟩ : Fin 2048) (i 1))

/-- On the rectangle of tile `t`'s rows, `whole` is tile `t`. -/
theorem whole_emb (f : Fin 8 → Vec F S2048x32 .f32) (t : Fin 8) (inb) (x : S2048x32.Idx) :
    whole f ((Rect.unit (s := S16384x32) ![2048 * t.val, 0] S2048x32.size inb).emb x) = f t x := by
  have h0 := idx2_lt0 x
  have e0 : ((Rect.unit (s := S16384x32) ![2048 * t.val, 0] S2048x32.size inb).emb x 0).val = 2048 * t.val + (x 0).val :=
    Rect.idx_unit_val _ _ inb x 0
  have e1 : ((Rect.unit (s := S16384x32) ![2048 * t.val, 0] S2048x32.size inb).emb x 1).val = 0 + (x 1).val :=
    Rect.idx_unit_val _ _ inb x 1
  unfold whole
  have ht : (⟨((Rect.unit (s := S16384x32) ![2048 * t.val, 0] S2048x32.size inb).emb x 0).val / 2048,
      by rw [e0]; omega⟩ : Fin 8) = t := Fin.ext (by show _ / 2048 = _; rw [e0]; omega)
  rw [ht]
  refine congrArg (f t) (Shape.idx_ext₂ ?_ ?_)
  · show _ % 2048 = _
    rw [e0]; omega
  · exact e1.trans (Nat.zero_add _)

/-- A load of column `k` of a [128, 128] array reads column `k`. -/
theorem ld_col {e : EltTy} (x : Vec F S128x128 e) (k : Nat) (hk : k < 128) (inb) :
    View.ld x (Rect.unit (s := S128x128) ![0, k] ![128, 1] inb) = fun i : S128x1.Idx => x (ix2 (i 0) (⟨k, hk⟩ : Fin 128)) := by
  funext i
  have h1 : (i 1).val < 1 := idx2_lt1 i
  refine congrArg x (Shape.idx_ext₂ ?_ ?_)
  · exact (Rect.idx_unit_val _ _ inb i 0).trans (Nat.zero_add _)
  · refine (Rect.idx_unit_val _ _ inb i 1).trans ?_
    show k + (i 1).val = k
    omega

/-- A load of the last row of the [129, 128] weight reads that row. -/
theorem ld_lastRow (x : Vec F S129x128 .f32) (inb) :
    View.ld x (Rect.unit (s := S129x128) ![128, 0] ![1, 128] inb) = lastRow x := by
  funext i
  have h1 : (i 0).val < 1 := idx2_lt0 i
  refine congrArg x (Shape.idx_ext₂ ?_ ?_)
  · refine (Rect.idx_unit_val _ _ inb i 0).trans ?_
    show 128 + (i 0).val = 128
    omega
  · exact (Rect.idx_unit_val _ _ inb i 1).trans (Nat.zero_add _)

/-- A load of a whole block at offset zero reads the block. -/
theorem ld_all {n k : Nat} {e : EltTy} (x : Vec F ⟨2, ![n, k]⟩ e) (inb) :
    View.ld x (Rect.unit (s := ⟨2, ![n, k]⟩) ![0, 0] ![n, k] inb) = x :=
  View.ld_unit_zero (funext fun a => by match a with | ⟨0, _⟩ => rfl | ⟨1, _⟩ => rfl) inb x

/-- A load of a whole staging buffer reads the last transfer that filled it. -/
theorem load_landed {n : Nat} {sp : Space} (v : View sig .tc sp ⟨2, ![2048, n]⟩ .f32) (w : Vec F ⟨2, ![2048, n]⟩ .f32)
    (L : List (View.Piece (Elt F) ⟨2, ![2048, n]⟩ .f32)) (inb) :
    v.readCov (⟨Rect.whole ⟨2, ![2048, n]⟩, w⟩ :: L) (Rect.unit (s := ⟨2, ![2048, n]⟩) ![0, 0] ![2048, n] inb).toLoadRect = w :=
  View.readCov_full v _ _ w L

/-- The rows of `interests` that a transfer from row `k` on carries. -/
theorem slab_interests (c : Dev nD) (f : HbBuf0 (F := F) c hbM0_0) (k : Nat) (hk : k + 2048 ≤ 16384) (inb) :
    ReadAs.same.apply (View.read (Elt F) ((View.whole main_arg2).slice
      (Rect.unit (s := S16384x256) ![k, 0] ![2048, 256] inb)) f) = (fun i : S2048x256.Idx =>
        (f : Vec F S16384x256 .f32) (ix2 (⟨k + (i 0).val, by have := idx2_lt0 i; omega⟩ : Fin 16384) (i 1))) := by
  funext i
  refine congrArg f (Shape.idx_ext₂ ?_ ?_)
  · exact Rect.idx_unit_val _ _ inb i 0
  · exact (Rect.idx_unit_val _ _ inb i 1).trans (Nat.zero_add _)

/-- The rows of `completed_courses` that a transfer from row `k` on carries. -/
theorem slab_courses (c : Dev nD) (f : HbBuf0 (F := F) c hbM0_1) (k : Nat) (hk : k + 2048 ≤ 16384) (inb) :
    ReadAs.same.apply (View.read (Elt F) ((View.whole main_arg3).slice
      (Rect.unit (s := S16384x512) ![k, 0] ![2048, 512] inb)) f) = (fun i : S2048x512.Idx =>
        (f : Vec F S16384x512 .f32) (ix2 (⟨k + (i 0).val, by have := idx2_lt0 i; omega⟩ : Fin 16384) (i 1))) := by
  funext i
  refine congrArg f (Shape.idx_ext₂ ?_ ?_)
  · exact Rect.idx_unit_val _ _ inb i 0
  · exact (Rect.idx_unit_val _ _ inb i 1).trans (Nat.zero_add _)

/-- A store of tile `t`'s value to tile `t`'s rows agrees with `whole` on them. -/
theorem piece (f : Fin 8 → Vec F S2048x32 .f32) (t : Fin 8) (k : Nat) (hk : k = 2048 * t.val) (w : Vec F S2048x32 .f32)
    (hw : w = f t) (inb) (x : S2048x32.Idx) :
    w x = whole f ((Rect.unit (s := S16384x32) ![k, 0] ![2048, 32] inb).emb x) := by
  subst hk
  rw [hw]
  exact (whole_emb f t inb x).symm

set_option maxHeartbeats 4000000 in
/-- THE OUTPUT ARRAY after the body: tile by tile, `tileAt`. -/
theorem out_eq (c : Dev nD) (arg0 : Memref sig .tc .vmem S128x128 .i32) (harg0 : arg0.IsWhole) (arg1 : Memref sig .tc .vmem S128x128 .i32) (harg1 : arg1.IsWhole) (arg2 : Memref sig .tc .vmem S128x128 .f32) (harg2 : arg2.IsWhole) (arg5 : Memref sig .tc .vmem S129x32 .f32) (harg5 : arg5.IsWhole) (arg6 : Memref sig .tc .vmem S65x32 .f32) (harg6 : arg6.IsWhole) (arg7 : Memref sig .tc .vmem S256x32 .f32) (harg7 : arg7.IsWhole) (arg8 : Memref sig .tc .vmem S1x32 .f32) (harg8 : arg8.IsWhole) (arg9 : Memref sig .tc .vmem S512x32 .f32) (harg9 : arg9.IsWhole) (arg10 : Memref sig .tc .vmem S1x32 .f32) (harg10 : arg10.IsWhole) (arg11 : Memref sig .tc .vmem S129x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S16384x32 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S2048x256 .f32) (harg20 : arg20.IsWhole) (arg21 : Memref sig .tc .vmem S2048x512 .f32) (harg21 : arg21.IsWhole) (arg22 : Memref sig .tc .vmem S2048x512 .f32) (harg22 : arg22.IsWhole) (arg23 : Memref sig .tc .vmem S2048x512 .f32) (harg23 : arg23.IsWhole)
    (x0 : Vec F S128x128 .i32) (x1 : Vec F S128x128 .i32) (x2 : Vec F S128x128 .f32) (x3 : Vec F S129x32 .f32) (x4 : Vec F S65x32 .f32) (x5 : Vec F S256x32 .f32) (x6 : Vec F S1x32 .f32) (x7 : Vec F S512x32 .f32) (x8 : Vec F S1x32 .f32) (x9 : Vec F S129x128 .f32) (x10 : Vec F S1x128 .f32) (x11 : Vec F S128x64 .f32) (x12 : Vec F S1x64 .f32) (x13 : Vec F S64x32 .f32) (x14 : Vec F S1x32 .f32) (fh0 : HbBuf0 (F := F) c hbM0_0) (fh1 : HbBuf0 (F := F) c hbM0_1) :
    out0_A_15 c arg0 harg0 arg1 harg1 arg2 harg2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 fh0 fh1 = whole (tileAt x0 x1 x2 fh0 fh1 x3 x4 x5 x6 x7 x8 x9 x10 x11 x12 x13 x14) := by
  unfold out0_A_15
  rw [View.read_writes_eq_canon _ _ _ (cover0_A_15 c arg0 harg0 arg1 harg1 arg2 harg2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 fh0 fh1)]
  funext y
  refine View.canon_apply_of_pieces _ _ ?_ y (cover0_A_15 c arg0 harg0 arg1 harg1 arg2 harg2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 fh0 fh1 y)
  unfold kernelRun0_A
  dsimp only
  sl_unfold_words
  simp (disch := decide) only [View.readAt_eq_ld, Memref.IsWhole.read_unread, load_landed, slab_interests, slab_courses,
    ld_col, ld_all, ld_lastRow]
  refine List.forall_mem_cons.2 ⟨piece _ 7 14336 rfl _ ?_ inb_S16384x32_S2048x32_14336_0,
    List.forall_mem_cons.2 ⟨piece _ 6 12288 rfl _ ?_ inb_S16384x32_S2048x32_12288_0,
    List.forall_mem_cons.2 ⟨piece _ 5 10240 rfl _ ?_ inb_S16384x32_S2048x32_10240_0,
    List.forall_mem_cons.2 ⟨piece _ 4 8192 rfl _ ?_ inb_S16384x32_S2048x32_8192_0,
    List.forall_mem_cons.2 ⟨piece _ 3 6144 rfl _ ?_ inb_S16384x32_S2048x32_6144_0,
    List.forall_mem_cons.2 ⟨piece _ 2 4096 rfl _ ?_ inb_S16384x32_S2048x32_4096_0,
    List.forall_mem_cons.2 ⟨piece _ 1 2048 rfl _ ?_ inb_S16384x32_S2048x32_2048_0,
    List.forall_mem_cons.2 ⟨piece _ 0 0 rfl _ ?_ inb_S16384x32_S2048x32_0_0,
    List.forall_mem_nil _⟩⟩⟩⟩⟩⟩⟩⟩
  all_goals
    rw [slab_interests c fh0, slab_courses c fh1]
    · rfl
    · decide
    · decide

end Cert.Tile

end
-- ==== Proof.Operands.lean ====
/- WHAT THE KERNEL'S OPERANDS HOLD when its body starts: the three index and grade vectors laid out as transposed
   128×128 arrays, the biases as single rows, and every other operand the argument itself. -/
module

public import proofs.«01_k».proof.Proof.Gen.KernelIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Tile

open Cert.KernelIdeal Cert.KernelIdeal.Gen Idealize.ShloMosaic Idealize.ShloMosaic.TcCoe Idealize.SL.Sem

variable {F : FTy → Type} [FloatOps F]

/-- A vector of 16384 entries laid out down the columns of a 128×128 array: entry `l` of column `g` is number
    `g * 128 + l`. -/
def across {e : EltTy} (x : Vec F S16384 e) : Vec F S128x128 e :=
  fun i => x (ix1 (⟨(i 1).val * 128 + (i 0).val, by
    have h0 : (i 0).val < 128 := (i 0).isLt
    have h1 : (i 1).val < 128 := (i 1).isLt
    omega⟩ : Fin 16384))

/-- A vector as the one row of an array. -/
def asRow {n : Nat} (b : Vec F ⟨1, ![n]⟩ .f32) : Vec F ⟨2, ![1, n]⟩ .f32 := fun i => b (ix1 (i 1 : Fin n))

variable (m : (ℓ : Loc nD τ sig) → Buf (Elt F) ℓ) (c : Dev nD)

/-- The arrays laid out before the body: the majors, the career goals and the grades across columns, each bias as a row. -/
theorem laid_out :
    V m c main_call0_v1 = across (m ((c : Thread nD τ).loc main_arg0))
    ∧ V m c main_call0_v3 = across (m ((c : Thread nD τ).loc main_arg1))
    ∧ V m c main_call0_v5 = across (m ((c : Thread nD τ).loc main_arg4))
    ∧ V m c main_call0_v6 = asRow (m ((c : Thread nD τ).loc main_arg8))
    ∧ V m c main_call0_v7 = asRow (m ((c : Thread nD τ).loc main_arg10))
    ∧ V m c main_call0_v8 = asRow (m ((c : Thread nD τ).loc main_arg12))
    ∧ V m c main_call0_v9 = asRow (m ((c : Thread nD τ).loc main_arg14))
    ∧ V m c main_call0_v10 = asRow (m ((c : Thread nD τ).loc main_arg16)) := by
  refine ⟨?_, ?_, ?_, ?_, ?_, ?_, ?_, ?_⟩ <;>
  · funext i
    rw [← ix2_eta i]
    unfold V
    first | unfold across | unfold asRow
    after_reads_at
    try rfl

/-- The kernel has one grid point. -/
theorem only_point : ∀ t : Fin cfg0.N, t = ⟨0, by decide⟩ := by decide +kernel

/-- A block that starts at the origin leaves each coordinate as it is. -/
theorem from_origin {k n x : Nat} (h : k = 0) : k * n + x = x := by rw [h, Nat.zero_mul, Nat.zero_add]

set_option maxHeartbeats 4000000 in
/-- Every input window's block is its whole array. -/
theorem whole_blocks (t : Fin cfg0.N) :
    iblk m c 0 t = V m c main_call0_v1
    ∧ iblk m c 1 t = V m c main_call0_v3
    ∧ iblk m c 2 t = V m c main_call0_v5
    ∧ iblk m c 3 t = V m c main_arg5
    ∧ iblk m c 4 t = V m c main_arg6
    ∧ iblk m c 5 t = V m c main_arg7
    ∧ iblk m c 6 t = V m c main_call0_v6
    ∧ iblk m c 7 t = V m c main_arg9
    ∧ iblk m c 8 t = V m c main_call0_v7
    ∧ iblk m c 9 t = V m c main_arg11
    ∧ iblk m c 10 t = V m c main_call0_v8
    ∧ iblk m c 11 t = V m c main_arg13
    ∧ iblk m c 12 t = V m c main_call0_v9
    ∧ iblk m c 13 t = V m c main_arg15
    ∧ iblk m c 14 t = V m c main_call0_v10 := by
  obtain rfl : t = ⟨0, by decide⟩ := only_point t
  refine ⟨?_, ?_, ?_, ?_, ?_, ?_, ?_, ?_, ?_, ?_, ?_, ?_, ?_, ?_, ?_⟩ <;>
  · funext i
    blk_ext [iblk]
    all_goals first | exact from_origin rfl | rfl

end Cert.Tile
-- ==== Proof.Array.lean ====
/- WHAT THE RESULT ARRAY HOLDS after the whole run, as one function of the arguments. -/
module

public import proofs.«01_k».proof.Proof.Pieces
public import proofs.«01_k».proof.Proof.Operands

@[expose] public section

set_option maxRecDepth 16384

noncomputable section

namespace Cert.Tile

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The eight tiles' results, one below the other, from the arguments. -/
def result : Vec F S16384x32 .f32 :=
  whole (tileAt (across (m ((c : Thread nD τ).loc main_arg0)))
    (across (m ((c : Thread nD τ).loc main_arg1)))
    (across (m ((c : Thread nD τ).loc main_arg4)))
    (m ((c : Thread nD τ).loc main_arg2))
    (m ((c : Thread nD τ).loc main_arg3))
    (m ((c : Thread nD τ).loc main_arg5))
    (m ((c : Thread nD τ).loc main_arg6))
    (m ((c : Thread nD τ).loc main_arg7))
    (asRow (m ((c : Thread nD τ).loc main_arg8)))
    (m ((c : Thread nD τ).loc main_arg9))
    (asRow (m ((c : Thread nD τ).loc main_arg10)))
    (m ((c : Thread nD τ).loc main_arg11))
    (asRow (m ((c : Thread nD τ).loc main_arg12)))
    (m ((c : Thread nD τ).loc main_arg13))
    (asRow (m ((c : Thread nD τ).loc main_arg14)))
    (m ((c : Thread nD τ).loc main_arg15))
    (asRow (m ((c : Thread nD τ).loc main_arg16))))

/-- What the body leaves in the output's buffer is `result`. -/
theorem body_eq (t : Fin cfg0.N) : outsAt0 m c t = result m c := by
  unfold outsAt0 result
  rw [out_eq]
  obtain ⟨b0, b1, b2, b3, b4, b5, b6, b7, b8, b9, b10, b11, b12, b13, b14⟩ := whole_blocks m c t
  obtain ⟨l0, l1, l2, l6, l8, l10, l12, l14⟩ := laid_out m c
  rw [b0.trans l0, b1.trans l1, b2.trans l2, b3.trans (V_main_arg5 m c), b4.trans (V_main_arg6 m c),
    b5.trans (V_main_arg7 m c), b6.trans l6, b7.trans (V_main_arg9 m c), b8.trans l8, b9.trans (V_main_arg11 m c),
    b10.trans l10, b11.trans (V_main_arg13 m c), b12.trans l12, b13.trans (V_main_arg15 m c), b14.trans l14,
    V_main_arg2 m c, V_main_arg3 m c]

/-- The result array after the run is `result`: its one block is the whole array, written back once. -/
theorem array_eq : (dats m 0 c).arrAt 15 cfg0.N = result m c := by
  refine (dats m 0 c).arrAt_eq_of_after_last 15 ⟨0, by decide⟩ (by decide +kernel) _ fun j => ?_
  rw [after0_15, body_eq]
  rfl

end Cert.Tile
-- ==== Proof.Score.lean ====
/- THE NETWORK AS MATHEMATICS: the extended-real number that one row of the batch is mapped to, as a function of the
   row's four groups of 32 features, its grade and the weights. -/
module

public import Idealize.ShloMosaic.PureOps.Ideal

@[expose] public section

noncomputable section

namespace Cert.Score

open Idealize.ShloMosaic

/-- Four groups of 32 numbers side by side: entry `k` of the 128. -/
def packed (a b c d : Fin 32 → EReal) (k : Fin 128) : EReal :=
  if h : k.val < 32 then a ⟨k.val, h⟩
  else if h : k.val - 32 < 32 then b ⟨k.val - 32, h⟩
  else if h : k.val - 32 - 32 < 32 then c ⟨k.val - 32 - 32, h⟩
  else d ⟨k.val - 32 - 32 - 32, by omega⟩

/-- A row of a table chosen by a one-hot vector: the sum over the table's rows of the row where its number is `w`. -/
def pick {n : Nat} (w : BitVec 32) (tab : Fin n → EReal) : EReal :=
  ∑ k : Fin n, (if w = BitVec.ofNat 32 k.val then (1 : EReal) else 0) * tab k

/-- The one-hot sum of a number that names a row is that row. -/
theorem pick_eq {n : Nat} (w : BitVec 32) (tab : Fin n → EReal) (hn : n ≤ 2 ^ 32) (h : w.toNat < n) : pick w tab = tab ⟨w.toNat, h⟩ := by
  have hw := w.isLt
  unfold pick
  rw [Finset.sum_eq_single (⟨w.toNat, h⟩ : Fin n)]
  · rw [if_pos (by simp), one_mul]
  · intro k _ hk
    rw [if_neg, zero_mul]
    intro e
    refine hk (Fin.ext ?_)
    have e' := congrArg BitVec.toNat e
    rw [BitVec.toNat_ofNat] at e'
    show k.val = w.toNat
    rw [Nat.mod_eq_of_lt (lt_of_lt_of_le k.isLt hn)] at e'
    exact e'.symm
  · intro h'
    exact absurd (Finset.mem_univ _) h'

/-- One entry of an affine map: `(∑ k, x k * w k) + b`. -/
def affine {n : Nat} (x w : Fin n → EReal) (b : EReal) : EReal := (∑ k : Fin n, x k * w k) + b

/-- The rectifier. -/
def relu (x : EReal) : EReal := max x 0

/-- The mean of the grades, the number 3. -/
def mean : EReal := Ideal.ofBits .f32 0x40400000#32

/-- The deviation of the grades: the root of the float nearest to 0.25 + 10⁻⁶. -/
def deviation : EReal := Ideal.sqrt (Ideal.ofBits .f32 0x3E800022#32)

/-- The standardised grade: the distance from the mean times the reciprocal of the deviation. -/
def grade (g : EReal) : EReal := (g - mean) * Ideal.div 1 deviation

/-- The deviation is a real number other than zero. -/
theorem deviation_real : ∃ s : ℝ, s ≠ 0 ∧ deviation = (s : EReal) := by
  have e : Ideal.ofBits .f32 0x3E800022#32 = ((8388642 / 33554432 : ℝ) : EReal) := by
    simp [Ideal.ofBits, Ideal.ieee, -EReal.coe_mul]
    norm_num
  refine ⟨Real.sqrt (8388642 / 33554432), (Real.sqrt_pos.2 (by norm_num)).ne', ?_⟩
  unfold deviation
  rw [e, Ideal.sqrt_coe, if_neg (by norm_num)]

/-- Dividing by the deviation is multiplying by its reciprocal. -/
theorem grade_eq (g : EReal) : Ideal.div (g - mean) deviation = grade g := by
  obtain ⟨s, h0, hs⟩ := deviation_real
  unfold grade
  rw [hs, Ideal.div_coe h0, Ideal.div_coe h0, one_mul]

/-- The first hidden layer: the 128 features times the weight's first 128 rows, the grade times its last row, the bias. -/
def first (x : Fin 128 → EReal) (g : EReal) (w : Fin 129 → Fin 128 → EReal) (b : Fin 128 → EReal) (j : Fin 128) : EReal :=
  relu ((∑ k : Fin 128, x k * w k.castSucc j) + g * w (Fin.last 128) j + b j)

/-- The second hidden layer. -/
def second (x : Fin 128 → EReal) (w : Fin 128 → Fin 64 → EReal) (b : Fin 64 → EReal) (j : Fin 64) : EReal :=
  relu (affine x (fun k => w k j) (b j))

/-- The network's output from the 128 features and the grade. -/
def score (x : Fin 128 → EReal) (g : EReal) (w1 : Fin 129 → Fin 128 → EReal) (b1 : Fin 128 → EReal)
    (w2 : Fin 128 → Fin 64 → EReal) (b2 : Fin 64 → EReal) (w3 : Fin 64 → Fin 32 → EReal) (b3 : Fin 32 → EReal)
    (j : Fin 32) : EReal :=
  affine (second (first x g w1 b1) w2 b2) (fun k => w3 k j) (b3 j)

/-- THE MODEL: entry (i, j) of the network's result, from the whole arrays. Row `i`'s features are the major table's row
    that its major index names, the career table's row that its career index names, and the rectified affine images of
    its rows of the two dense inputs. -/
def model (mj ca : Fin 16384 → BitVec 32) (xi : Fin 16384 → Fin 256 → EReal) (xc : Fin 16384 → Fin 512 → EReal)
    (g : Fin 16384 → EReal) (mt : Fin 129 → Fin 32 → EReal) (ct : Fin 65 → Fin 32 → EReal)
    (wi : Fin 256 → Fin 32 → EReal) (bi : Fin 32 → EReal) (wc : Fin 512 → Fin 32 → EReal) (bc : Fin 32 → EReal)
    (w1 : Fin 129 → Fin 128 → EReal) (b1 : Fin 128 → EReal) (w2 : Fin 128 → Fin 64 → EReal) (b2 : Fin 64 → EReal)
    (w3 : Fin 64 → Fin 32 → EReal) (b3 : Fin 32 → EReal) (i : Fin 16384) (j : Fin 32) : EReal :=
  score
    (packed (fun l => pick (mj i) fun k => mt k l) (fun l => pick (ca i) fun k => ct k l)
      (fun l => relu (affine (xi i) (fun k => wi k l) (bi l))) (fun l => relu (affine (xc i) (fun k => wc k l) (bc l))))
    (grade (g i)) w1 b1 w2 b2 w3 b3 j

end Cert.Score

end
-- ==== Proof.TileValue.lean ====
/- THE TILE'S VALUE: entry (r, j) of what a tile stores is the network's output for the tile's row `r`, whose index and
   grade entries stand at row `r mod 128` of column `r / 128` of the tile's 16 columns. -/
module

public import proofs.«01_k».proof.Proof.Tile
public import proofs.«01_k».proof.Proof.Score
public import Idealize.ShloMosaic.Lib.Pointwise
public import Idealize.ShloMosaic.Lib.Pipeline.Value

@[expose] public section

noncomputable section

namespace Cert.Tile

open Cert.KernelIdeal Cert.KernelIdeal.Gen Idealize.ShloMosaic

/-- Row `r` of the tile lies in column `r / 128` of its 16 columns. -/
abbrev colOf (r : Fin 2048) : Fin 16 := ⟨r.val / 128, by omega⟩

/-- Row `r` of the tile is entry `r mod 128` of its column. -/
abbrev entryOf (r : Fin 2048) : Fin 128 := ⟨r.val % 128, Nat.mod_lt _ (by decide)⟩

/-- Sixteen stacks of 128 rows read at row `r`: row `r mod 128` of stack `r / 128`. -/
theorem stack_apply {n : Nat} {α : Type} (f : Fin 16 → ((⟨2, ![128, n]⟩ : Shape).Idx → α)) (h) (r : Fin 2048) (k : Fin n) :
    concatenate (⟨2, ![2048, n]⟩ : Shape) 0 (sixteen f) h (ix2 r k) = f (colOf r) (ix2 (entryOf r) k) :=
  concatenate_ofFn_apply (t := (⟨2, ![2048, n]⟩ : Shape)) (s₁ := (⟨2, ![128, n]⟩ : Shape)) 0 f h rfl 128 rfl (ix2 r k) (colOf r)
    rfl (ix2 (entryOf r) k) rfl (fun b hb => by
      match b with
      | ⟨0, _⟩ => exact absurd rfl hb
      | ⟨1, _⟩ => rfl)

/-- One entry of a one-hot vector of words: 1 where the word is the position, 0 elsewhere. -/
theorem hot_word (w v : BitVec 32) :
    (FloatOps.sitofp (F := Ideal) .f32 (BitVec.setWidth 32 (IntOp.cmpi CmpIPredicate.eq w v)) : EReal)
      = if w = v then 1 else 0 := by
  show ((((BitVec.setWidth 32 (IntOp.cmpi CmpIPredicate.eq w v)).toInt : ℤ) : ℝ) : EReal) = _
  by_cases h : w = v
  · subst h
    simp [IntOp.cmpi]
  · have hb : (w == v) = false := by simpa using h
    simp [IntOp.cmpi, h, hb]

/-- Entry (r, k) of the one-hot rows of a column of major indices. -/
theorem hotMajor_apply (c : Vec Ideal S128x1 .i32) (r : Fin 128) (k : Fin 129) :
    hotMajor (F := Ideal) c (ix2 r k) = if c (ix2 r 0) = BitVec.ofNat 32 k.val then (1 : EReal) else 0 := by
  pointwise [hotMajor]
  exact hot_word _ _

/-- Entry (r, k) of the one-hot rows of a column of career indices. -/
theorem hotCareer_apply (c : Vec Ideal S128x1 .i32) (r : Fin 128) (k : Fin 65) :
    hotCareer (F := Ideal) c (ix2 r k) = if c (ix2 r 0) = BitVec.ofNat 32 k.val then (1 : EReal) else 0 := by
  pointwise [hotCareer]
  exact hot_word _ _

/-- Entry (r, j) of the tile's rows of the major table: the one-hot sum of the row's index over the table. -/
theorem majors_apply (tab : Vec Ideal S129x32 .f32) (c : Fin 16 → Vec Ideal S128x1 .i32) (r : Fin 2048) (j : Fin 32) :
    majors tab c (ix2 r j) = Score.pick (c (colOf r) (ix2 (entryOf r) 0)) fun k : Fin 129 => tab (ix2 k j) := by
  have hs := fun k => stack_apply (fun g => hotMajor (F := Ideal) (c g))
    concatenates_S128x129_S128x129_S128x129_S128x129_S128x129_S128x129_S128x129_S128x129_S128x129_S128x129_S128x129_S128x129_S128x129_S128x129_S128x129_S128x129_S2048x129_d0
    r k
  unfold majors
  generalize concatenate S2048x129 0 _ _ = v at *
  pointwise
  refine Finset.sum_congr rfl fun k _ => ?_
  rw [hs, hotMajor_apply]

/-- Entry (r, j) of the tile's rows of the career table, likewise. -/
theorem careers_apply (tab : Vec Ideal S65x32 .f32) (c : Fin 16 → Vec Ideal S128x1 .i32) (r : Fin 2048) (j : Fin 32) :
    careers tab c (ix2 r j) = Score.pick (c (colOf r) (ix2 (entryOf r) 0)) fun k : Fin 65 => tab (ix2 k j) := by
  have hs := fun k => stack_apply (fun g => hotCareer (F := Ideal) (c g))
    concatenates_S128x65_S128x65_S128x65_S128x65_S128x65_S128x65_S128x65_S128x65_S128x65_S128x65_S128x65_S128x65_S128x65_S128x65_S128x65_S128x65_S2048x65_d0
    r k
  unfold careers
  generalize concatenate S2048x65 0 _ _ = v at *
  pointwise
  refine Finset.sum_congr rfl fun k _ => ?_
  rw [hs, hotCareer_apply]

/-- Entry (r, j) of the interest features. -/
theorem interestFeat_apply (x : Vec Ideal S2048x256 .f32) (w : Vec Ideal S256x32 .f32) (b : Vec Ideal S1x32 .f32)
    (r : Fin 2048) (j : Fin 32) :
    interestFeat x w b (ix2 r j)
      = Score.relu (Score.affine (fun k => x (ix2 r k)) (fun k => w (ix2 k j)) (b (ix2 0 j))) := by
  pointwise [interestFeat]
  rfl

/-- Entry (r, j) of the course features. -/
theorem courseFeat_apply (x : Vec Ideal S2048x512 .f32) (w : Vec Ideal S512x32 .f32) (b : Vec Ideal S1x32 .f32)
    (r : Fin 2048) (j : Fin 32) :
    courseFeat x w b (ix2 r j)
      = Score.relu (Score.affine (fun k => x (ix2 r k)) (fun k => w (ix2 k j)) (b (ix2 0 j))) := by
  pointwise [courseFeat]
  rfl

/-- Entry r of the standardised grades. -/
theorem grades_apply (c : Fin 16 → Vec Ideal S128x1 .f32) (r : Fin 2048) :
    grades c (ix2 r 0) = Score.grade (c (colOf r) (ix2 (entryOf r) 0)) := by
  have hs := stack_apply (fun g => (shapeCast S128x1 (c g) shapeCasts_S128x1_S128x1 : FVec Ideal S128x1 .f32))
    concatenates_S128x1_S128x1_S128x1_S128x1_S128x1_S128x1_S128x1_S128x1_S128x1_S128x1_S128x1_S128x1_S128x1_S128x1_S128x1_S128x1_S2048x1_d0
    r 0
  unfold grades
  generalize concatenate S2048x1 0 _ _ = v at *
  pointwise
  rw [hs]
  pointwise
  rfl

/-- Entry (r, j) of the first layer before its bias. -/
theorem layer1_apply (me ca ie ce : FVec Ideal S2048x32 .bf16) (g : FVec Ideal S2048x1 .f32) (w : Vec Ideal S129x128 .f32)
    (wlast : Vec Ideal S1x128 .f32) (r : Fin 2048) (j : Fin 128) :
    layer1 me ca ie ce g w wlast (ix2 r j)
      = (∑ k : Fin 128, Score.packed (fun l => me (ix2 r l)) (fun l => ca (ix2 r l)) (fun l => ie (ix2 r l))
          (fun l => ce (ix2 r l)) k * w (ix2 k.castSucc j)) + g (ix2 r 0) * wlast (ix2 0 j) := by
  pointwise [layer1]
  rfl

/-- Entry (r, j) of the first hidden layer. -/
theorem hidden1_apply (h : FVec Ideal S2048x128 .f32) (b : Vec Ideal S1x128 .f32) (r : Fin 2048) (j : Fin 128) :
    hidden1 h b (ix2 r j) = Score.relu (h (ix2 r j) + b (ix2 0 j)) := by
  pointwise [hidden1]
  rfl

/-- Entry (r, j) of the second hidden layer. -/
theorem hidden2_apply (h : FVec Ideal S2048x128 .bf16) (w : Vec Ideal S128x64 .f32) (b : Vec Ideal S1x64 .f32)
    (r : Fin 2048) (j : Fin 64) :
    hidden2 h w b (ix2 r j)
      = Score.second (fun k => h (ix2 r k)) (fun k l => w (ix2 k l)) (fun l => b (ix2 0 l)) j := by
  pointwise [hidden2]
  rfl

/-- Entry (r, j) of the third layer. -/
theorem layer3_apply (h : FVec Ideal S2048x64 .bf16) (w : Vec Ideal S64x32 .f32) (b : Vec Ideal S1x32 .f32) (r : Fin 2048)
    (j : Fin 32) :
    layer3 h w b (ix2 r j) = Score.affine (fun k => h (ix2 r k)) (fun k => w (ix2 k j)) (b (ix2 0 j)) := by
  pointwise [layer3]
  rfl

/-- ENTRY (r, j) OF WHAT A TILE STORES is the network's output for row `r`, when the last row of the first layer's weight
    is given twice. -/
theorem tile_apply (mj ca : Fin 16 → Vec Ideal S128x1 .i32) (gp : Fin 16 → Vec Ideal S128x1 .f32)
    (xi : Vec Ideal S2048x256 .f32) (xc : Vec Ideal S2048x512 .f32)
    (mt : Vec Ideal S129x32 .f32) (ct : Vec Ideal S65x32 .f32) (wi : Vec Ideal S256x32 .f32) (bi : Vec Ideal S1x32 .f32)
    (wc : Vec Ideal S512x32 .f32) (bc : Vec Ideal S1x32 .f32) (w1 : Vec Ideal S129x128 .f32) (wl : Vec Ideal S1x128 .f32)
    (hwl : ∀ l : Fin 128, wl (ix2 0 l) = w1 (ix2 (Fin.last 128) l))
    (b1 : Vec Ideal S1x128 .f32) (w2 : Vec Ideal S128x64 .f32) (b2 : Vec Ideal S1x64 .f32) (w3 : Vec Ideal S64x32 .f32)
    (b3 : Vec Ideal S1x32 .f32) (r : Fin 2048) (j : Fin 32) :
    tile mj ca gp xi xc mt ct wi bi wc bc w1 wl b1 w2 b2 w3 b3 (ix2 r j)
      = Score.score
          (Score.packed
            (fun l => Score.pick (mj (colOf r) (ix2 (entryOf r) 0)) fun k : Fin 129 => mt (ix2 k l))
            (fun l => Score.pick (ca (colOf r) (ix2 (entryOf r) 0)) fun k : Fin 65 => ct (ix2 k l))
            (fun l => Score.relu (Score.affine (fun k => xi (ix2 r k)) (fun k => wi (ix2 k l)) (bi (ix2 0 l))))
            (fun l => Score.relu (Score.affine (fun k => xc (ix2 r k)) (fun k => wc (ix2 k l)) (bc (ix2 0 l)))))
          (Score.grade (gp (colOf r) (ix2 (entryOf r) 0)))
          (fun k l => w1 (ix2 k l)) (fun l => b1 (ix2 0 l)) (fun k l => w2 (ix2 k l)) (fun l => b2 (ix2 0 l))
          (fun k l => w3 (ix2 k l)) (fun l => b3 (ix2 0 l)) j := by
  unfold tile
  rw [layer3_apply]
  simp only [hidden2_apply, hidden1_apply, layer1_apply, majors_apply, careers_apply, interestFeat_apply, courseFeat_apply,
    grades_apply, hwl]
  rfl

end Cert.Tile

end
-- ==== Proof.KernelValue.lean ====
/- WHAT THE KERNEL COMPUTES: entry (i, j) of the array its eight tiles make up is the model at row i and column j. -/
module

public import proofs.«01_k».proof.Proof.Array
public import proofs.«01_k».proof.Proof.TileValue

@[expose] public section

noncomputable section

namespace Cert.Tile

open Cert.KernelIdeal Cert.KernelIdeal.Gen Idealize.ShloMosaic

/-- Group `r / 128` of tile `t`, entry `r % 128`, of an array laid out across columns is entry `2048 t + r` of the vector. -/
theorem col_across {e : EltTy} (x : Vec Ideal S16384 e) (t : Fin 8) (r : Fin 2048) (i : Fin 16384)
    (hi : i.val = 2048 * t.val + r.val) : col (across x) t (colOf r) (ix2 (entryOf r) 0) = x (ix1 i) := by
  refine congrArg (fun k => x (ix1 k)) (Fin.ext ?_)
  show (16 * t.val + r.val / 128) * 128 + r.val % 128 = i.val
  omega

/-- Row `r` of tile `t`'s rows is row `2048 t + r` of the array. -/
theorem rows_apply {n : Nat} (f : Vec Ideal ⟨2, ![16384, n]⟩ .f32) (t : Fin 8) (r : Fin 2048) (i : Fin 16384)
    (hi : i.val = 2048 * t.val + r.val) (k : Fin n) : rows f t (ix2 r k) = f (ix2 i k) :=
  congrArg (fun q => f (ix2 q k)) (Fin.ext hi.symm)

/-- Entry (i, j) of the kernel's array is the model. -/
theorem kernel_apply (x0 x1 : Vec Ideal S16384 .i32) (x2 : Vec Ideal S16384x256 .f32) (x3 : Vec Ideal S16384x512 .f32)
    (x4 : Vec Ideal S16384 .f32) (x5 : Vec Ideal S129x32 .f32) (x6 : Vec Ideal S65x32 .f32) (x7 : Vec Ideal S256x32 .f32)
    (x8 : Vec Ideal S32 .f32) (x9 : Vec Ideal S512x32 .f32) (x10 : Vec Ideal S32 .f32) (x11 : Vec Ideal S129x128 .f32)
    (x12 : Vec Ideal S128 .f32) (x13 : Vec Ideal S128x64 .f32) (x14 : Vec Ideal S64 .f32) (x15 : Vec Ideal S64x32 .f32)
    (x16 : Vec Ideal S32 .f32) (i : Fin 16384) (j : Fin 32) :
    whole (tileAt (across x0) (across x1) (across x4) x2 x3 x5 x6 x7 (asRow x8) x9
      (asRow x10) x11 (asRow x12) x13 (asRow x14) x15 (asRow x16)) (ix2 i j)
      = Score.model (fun i => x0 (ix1 i)) (fun i => x1 (ix1 i)) (fun i k => x2 (ix2 i k)) (fun i k => x3 (ix2 i k))
          (fun i => x4 (ix1 i)) (fun k l => x5 (ix2 k l)) (fun k l => x6 (ix2 k l)) (fun k l => x7 (ix2 k l))
          (fun l => x8 (ix1 l)) (fun k l => x9 (ix2 k l)) (fun l => x10 (ix1 l)) (fun k l => x11 (ix2 k l))
          (fun l => x12 (ix1 l)) (fun k l => x13 (ix2 k l)) (fun l => x14 (ix1 l)) (fun k l => x15 (ix2 k l))
          (fun l => x16 (ix1 l)) i j := by
  let t : Fin 8 := ⟨i.val / 2048, by omega⟩
  let r : Fin 2048 := ⟨i.val % 2048, Nat.mod_lt _ (by decide)⟩
  have hi : i.val = 2048 * t.val + r.val := (Nat.div_add_mod i.val 2048).symm
  show tileAt (across x0) (across x1) (across x4) x2 x3 x5 x6 x7 (asRow x8) x9
      (asRow x10) x11 (asRow x12) x13 (asRow x14) x15 (asRow x16) t (ix2 r j) = _
  unfold tileAt
  rw [tile_apply _ _ _ _ _ _ _ _ _ _ _ _ _ fun _ => rfl]
  simp only [col_across _ t r i hi, rows_apply _ t r i hi]
  rfl

end Cert.Tile
-- ==== Proof.RefValue.lean ====
/- WHAT THE REFERENCE COMPUTES: entry (i, j) of its result is the model, when every index names a row of its table. -/
module

public import proofs.«01_k».proof.Proof.Score
public import proofs.«01_k».proof.Proof.Gen.ReferenceIdeal.Read
public import Idealize.ShloMosaic.Lib.Pointwise
public import Idealize.ShloMosaic.Lib.Routing.OpsPair
public import Idealize.ShloMosaic.Lib.Routing.Ops
public import Idealize.ShloMosaic.Lib.ReduceAll
public import Idealize.ShloMosaic.Lib.Affine

@[expose] public section

noncomputable section

namespace Cert.Reference

open Cert.ReferenceIdeal Cert.ReferenceIdeal.Gen Cert.ReferenceIdeal.Read Idealize.ShloMosaic

/-- A word at most `n`, with `n` below 2³¹, passes both tests of its range. -/
theorem in_range (w : BitVec 32) (n : Nat) (hn : n < 2 ^ 31) (h : w.toNat ≤ n) :
    IntOp.andi (IntOp.cmpi .sge w 0#32) (IntOp.cmpi .sle w (BitVec.ofNat 32 n)) = 1#1 := by
  have hw : w.toInt = (w.toNat : Int) := BitVec.toInt_eq_toNat_of_lt (by omega)
  have hv : (BitVec.ofNat 32 n).toInt = (n : Int) := by
    rw [BitVec.toInt_eq_toNat_of_lt (by rw [BitVec.toNat_ofNat]; omega), BitVec.toNat_ofNat]
    omega
  have h1 : IntOp.cmpi .sge w 0#32 = 1#1 := IntOp.cmpi_sge.2 (by rw [hw]; simp)
  have h2 : IntOp.cmpi .sle w (BitVec.ofNat 32 n) = 1#1 := IntOp.cmpi_sle.2 (by rw [hw, hv]; omega)
  rw [h1, h2]
  rfl

/-- The index column that the major lookup reads is the argument itself where the index names a row. -/
theorem major_index (x0 : IVec S16384 32) (i : Fin 16384) (h : (x0 (ix1 i)).toNat < 129) (k : Fin 1) :
    val_main_call0_v5 (F := Ideal) x0 (ix2 i k) = x0 (ix1 i) := by
  pointwise [val_main_call0_v5, val_main_call0_v4, val_main_call0_v3, val_main_call0_v2, val_main_call0_v1,
    val_main_call0_v0, val_main_call0_c, val_main_call0_c_0]
  exact Routing.wrap_of_lt _ _ (by omega)

/-- The index column that the career lookup reads, likewise. -/
theorem career_index (x1 : IVec S16384 32) (i : Fin 16384) (h : (x1 (ix1 i)).toNat < 65) (k : Fin 1) :
    val_main_call1_v5 (F := Ideal) x1 (ix2 i k) = x1 (ix1 i) := by
  pointwise [val_main_call1_v5, val_main_call1_v4, val_main_call1_v3, val_main_call1_v2, val_main_call1_v1,
    val_main_call1_v0, val_main_call1_c, val_main_call1_c_0]
  exact Routing.wrap_of_lt _ _ (by omega)

/-- Every major index passes the lookup's range test. -/
theorem major_mask (x0 : IVec S16384 32) (h : ∀ i, (x0 (ix1 i)).toNat < 129) (i : Fin 16384) (k : Fin 1) :
    val_main_call0_v11 (F := Ideal) x0 (ix2 i k) = 1#1 := by
  pointwise [val_main_call0_v11, val_main_call0_v10, val_main_call0_v9, val_main_call0_v8, val_main_call0_v7,
    val_main_call0_v6, val_main_call0_c_1, val_main_call0_c_2]
  rw [major_index x0 _ (h _)]
  exact in_range _ 128 (by decide) (Nat.le_of_lt_succ (h _))

/-- Entry (i, j) of the looked-up major rows: the table's row that the index names. -/
theorem major_apply (x0 : IVec S16384 32) (x5 : FVec Ideal S129x32 .f32) (h : ∀ i, (x0 (ix1 i)).toNat < 129) (i : Fin 16384)
    (j : Fin 32) :
    val_main_v0 (F := Ideal) x0 x5 (ix2 i j) = Score.pick (x0 (ix1 i)) fun k : Fin 129 => x5 (ix2 k j) := by
  have hm : val_main_call0_v12 (F := Ideal) x0 (ix1 i) = 1#1 := by
    unfold val_main_call0_v12
    refine Host.reduce_andi_one _ _ _ _ _ rfl fun y => ?_
    rw [← ix2_eta y]
    exact major_mask x0 h _ _
  have hg : val_main_call0_v13 (F := Ideal) x0 x5 (ix2 i j) = x5 (ix2 ⟨(x0 (ix1 i)).toNat, h i⟩ j) :=
    Routing.gather_row (nb := 129) (B := 32) (n := 16384) gather_S129x32_S16384x1_S16384x32_1_0_n_n_0_1_132 rfl rfl rfl rfl rfl
      x5 (val_main_call0_v5 (F := Ideal) x0) i j ⟨(x0 (ix1 i)).toNat, h i⟩
      ((major_index x0 i (h i) 0).trans (by simp)) (by decide)
  pointwise [val_main_v0, val_main_call0_v14, val_main_call0_v15]
  rw [hm, hg, Score.pick_eq _ _ (by decide) (h i)]
  rfl

/-- Every career index passes the lookup's range test. -/
theorem career_mask (x1 : IVec S16384 32) (h : ∀ i, (x1 (ix1 i)).toNat < 65) (i : Fin 16384) (k : Fin 1) :
    val_main_call1_v11 (F := Ideal) x1 (ix2 i k) = 1#1 := by
  pointwise [val_main_call1_v11, val_main_call1_v10, val_main_call1_v9, val_main_call1_v8, val_main_call1_v7,
    val_main_call1_v6, val_main_call1_c_1, val_main_call1_c_2]
  rw [career_index x1 _ (h _)]
  exact in_range _ 64 (by decide) (Nat.le_of_lt_succ (h _))

/-- Entry (i, j) of the looked-up career rows, likewise. -/
theorem career_apply (x1 : IVec S16384 32) (x6 : FVec Ideal S65x32 .f32) (h : ∀ i, (x1 (ix1 i)).toNat < 65) (i : Fin 16384)
    (j : Fin 32) :
    val_main_v1 (F := Ideal) x1 x6 (ix2 i j) = Score.pick (x1 (ix1 i)) fun k : Fin 65 => x6 (ix2 k j) := by
  have hm : val_main_call1_v12 (F := Ideal) x1 (ix1 i) = 1#1 := by
    unfold val_main_call1_v12
    refine Host.reduce_andi_one _ _ _ _ _ rfl fun y => ?_
    rw [← ix2_eta y]
    exact career_mask x1 h _ _
  have hg : val_main_call1_v13 (F := Ideal) x1 x6 (ix2 i j) = x6 (ix2 ⟨(x1 (ix1 i)).toNat, h i⟩ j) :=
    Routing.gather_row (nb := 65) (B := 32) (n := 16384) gather_S65x32_S16384x1_S16384x32_1_0_n_n_0_1_132 rfl rfl rfl rfl rfl
      x6 (val_main_call1_v5 (F := Ideal) x1) i j ⟨(x1 (ix1 i)).toNat, h i⟩
      ((career_index x1 i (h i) 0).trans (by simp)) (by decide)
  pointwise [val_main_v1, val_main_call1_v14, val_main_call1_v15]
  rw [hm, hg, Score.pick_eq _ _ (by decide) (h i)]
  rfl

/-- Entry (i, j) of the interest features. -/
theorem interest_apply (x2 : FVec Ideal S16384x256 .f32) (x7 : FVec Ideal S256x32 .f32) (x8 : FVec Ideal S32 .f32)
    (i : Fin 16384) (j : Fin 32) :
    val_main_v6 (F := Ideal) x2 x7 x8 (ix2 i j)
      = Score.relu (Score.affine (fun k => x2 (ix2 i k)) (fun k => x7 (ix2 k j)) (x8 (ix1 j))) := by
  pointwise [val_main_v6, val_main_v5, val_main_v4, val_main_v3, val_main_v2, val_main_call2_v0, val_main_call2_cst]
  rfl

/-- Entry (i, j) of the course features. -/
theorem course_apply (x3 : FVec Ideal S16384x512 .f32) (x9 : FVec Ideal S512x32 .f32) (x10 : FVec Ideal S32 .f32)
    (i : Fin 16384) (j : Fin 32) :
    val_main_v11 (F := Ideal) x3 x9 x10 (ix2 i j)
      = Score.relu (Score.affine (fun k => x3 (ix2 i k)) (fun k => x9 (ix2 k j)) (x10 (ix1 j))) := by
  pointwise [val_main_v11, val_main_v10, val_main_v9, val_main_v8, val_main_v7, val_main_call3_v0, val_main_call3_cst]
  rfl

/-- Entry i of the standardised grades. -/
theorem grade_apply (x4 : FVec Ideal S16384 .f32) (i : Fin 16384) (k : Fin 1) :
    val_main_v18 (F := Ideal) x4 (ix2 i k) = Score.grade (x4 (ix1 i)) := by
  pointwise [val_main_v18, val_main_v17, val_main_v16, val_main_v15, val_main_v14, val_main_v13, val_main_v12, val_main_cst,
    val_main_cst_0]
  exact Score.grade_eq _

/-- Entry (i, j) of the first layer's product: the features times the weight's first 128 rows, plus the grade times its
    last row. -/
theorem product_apply    (x0 x1 : IVec S16384 32) (x2 : FVec Ideal S16384x256 .f32) (x3 : FVec Ideal S16384x512 .f32) (x4 : FVec Ideal S16384 .f32)
    (x5 : FVec Ideal S129x32 .f32) (x6 : FVec Ideal S65x32 .f32) (x7 : FVec Ideal S256x32 .f32) (x8 : FVec Ideal S32 .f32)
    (x9 : FVec Ideal S512x32 .f32) (x10 : FVec Ideal S32 .f32) (x11 : FVec Ideal S129x128 .f32)
    (i : Fin 16384) (j : Fin 128) :
    val_main_v20 (F := Ideal) x0 x1 x2 x3 x4 x5 x6 x7 x8 x9 x10 x11 (ix2 i j)
      = (∑ k : Fin 128, Score.packed (fun l => val_main_v0 (F := Ideal) x0 x5 (ix2 i l))
          (fun l => val_main_v1 (F := Ideal) x1 x6 (ix2 i l)) (fun l => val_main_v6 (F := Ideal) x2 x7 x8 (ix2 i l))
          (fun l => val_main_v11 (F := Ideal) x3 x9 x10 (ix2 i l)) k * x11 (ix2 k.castSucc j))
        + val_main_v18 (F := Ideal) x4 (ix2 i 0) * x11 (ix2 (Fin.last 128) j) := by
  pointwise [val_main_v20, val_main_v19]
  rw [Fin.sum_univ_castSucc]
  refine congrArg₂ (· + ·) (Finset.sum_congr rfl fun k _ => congrArg (· * _) ?_) rfl
  have hk := k.isLt
  unfold Score.packed
  simp only [Fin.val_castSucc]
  repeat' split
  all_goals first | rfl | omega

/-- THE REFERENCE'S RESULT at (i, j) is the model, when every index names a row of its table. -/
theorem result_apply    (x0 x1 : IVec S16384 32) (x2 : FVec Ideal S16384x256 .f32) (x3 : FVec Ideal S16384x512 .f32) (x4 : FVec Ideal S16384 .f32)
    (x5 : FVec Ideal S129x32 .f32) (x6 : FVec Ideal S65x32 .f32) (x7 : FVec Ideal S256x32 .f32) (x8 : FVec Ideal S32 .f32)
    (x9 : FVec Ideal S512x32 .f32) (x10 : FVec Ideal S32 .f32) (x11 : FVec Ideal S129x128 .f32) (x12 : FVec Ideal S128 .f32)
    (x13 : FVec Ideal S128x64 .f32) (x14 : FVec Ideal S64 .f32) (x15 : FVec Ideal S64x32 .f32) (x16 : FVec Ideal S32 .f32)
    (h0 : ∀ i, (x0 (ix1 i)).toNat < 129) (h1 : ∀ i, (x1 (ix1 i)).toNat < 65) (i : Fin 16384) (j : Fin 32) :
    val_main_v33 (F := Ideal) x0 x1 x2 x3 x4 x5 x6 x7 x8 x9 x10 x11 x12 x13 x14 x15 x16 (ix2 i j)
      = Score.model (fun i => x0 (ix1 i)) (fun i => x1 (ix1 i)) (fun i k => x2 (ix2 i k)) (fun i k => x3 (ix2 i k))
          (fun i => x4 (ix1 i)) (fun k l => x5 (ix2 k l)) (fun k l => x6 (ix2 k l)) (fun k l => x7 (ix2 k l))
          (fun l => x8 (ix1 l)) (fun k l => x9 (ix2 k l)) (fun l => x10 (ix1 l)) (fun k l => x11 (ix2 k l))
          (fun l => x12 (ix1 l)) (fun k l => x13 (ix2 k l)) (fun l => x14 (ix1 l)) (fun k l => x15 (ix2 k l))
          (fun l => x16 (ix1 l)) i j := by
  pointwise [val_main_v33, val_main_v32, val_main_v31, val_main_v30, val_main_v29, val_main_v28, val_main_v27, val_main_v26,
    val_main_v25, val_main_v24, val_main_v23, val_main_v22, val_main_v21, val_main_call4_v0, val_main_call4_cst,
    val_main_call5_v0, val_main_call5_cst]
  simp only [product_apply, major_apply x0 x5 h0, career_apply x1 x6 h1, interest_apply, course_apply, grade_apply]
  rfl

end Cert.Reference

end
-- ==== Proof.Indices.lean ====
/- WHAT THE PRECONDITION SAYS: every major is below 129 and every career goal below 65, as natural numbers. -/
module

public import proofs.«01_k».proof.Defs
public import Idealize.ShloMosaic.Lib.Affine
public import Idealize.ShloMosaic.Lib.Pointwise

@[expose] public section

noncomputable section

namespace Cert.Indices

open Idealize.ShloMosaic

/-- The one shape relation the precondition takes. -/
theorem facts : Cert.Pre_indices_name_rows.Facts := ⟨by decide⟩

/-- A word that is at least 0 and below `n`, both as signed numbers, is below `n` as a natural number. -/
theorem below (w : BitVec 32) (n : Nat) (hn : n < 2 ^ 31) (h0 : IntOp.cmpi .sge w 0#32 = 1#1)
    (h1 : IntOp.cmpi .slt w (BitVec.ofNat 32 n) = 1#1) : w.toNat < n := by
  have a := IntOp.cmpi_sge.1 h0
  have b := IntOp.cmpi_slt.1 h1
  have hv : (BitVec.ofNat 32 n).toInt = (n : Int) := by
    rw [BitVec.toInt_eq_toNat_of_lt (by rw [BitVec.toNat_ofNat]; omega), BitVec.toNat_ofNat]
    omega
  rw [hv] at b
  have hz : (0#32 : BitVec 32).toInt = 0 := rfl
  rw [hz] at a
  rw [BitVec.toInt_eq_toNat_cond] at a b
  have := w.isLt
  split at a <;> omega

/-- The precondition, read at entry `i`: both indices name a row of their table. -/
theorem named (hp : Cert.Pre_indices_name_rows.Facts)
    (x0 x1 : IVec ⟨1, ![16384]⟩ 32) {x2 x3 x4 x5 x6 x7 x8 x9 x10 x11 x12 x13 x14 x15 x16}
    (h : Cert.Pre_indices_name_rows.fn (F := Ideal) x0 x1 x2 x3 x4 x5 x6 x7 x8 x9 x10 x11 x12 x13 x14 x15 x16
      = fun _ => 1#1) (i : Fin 16384) : (x0 (ix1 i)).toNat < 129 ∧ (x1 (ix1 i)).toNat < 65 := by
  have e := congrFun h (ix1 i)
  obtain ⟨e, d1⟩ := IntOp.andi_eq_one.1 e
  obtain ⟨e, c1⟩ := IntOp.andi_eq_one.1 e
  obtain ⟨a0, b0⟩ := IntOp.andi_eq_one.1 e
  exact ⟨below _ 129 (by decide) a0 b0, below _ 65 (by decide) c1 d1⟩

end Cert.Indices
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.KernelValue
public import proofs.«01_k».proof.Proof.RefValue
public import proofs.«01_k».proof.Proof.Indices
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Pre_indices_name_rows.Facts := Cert.Indices.facts

/-- The kernel runs on bit patterns, keeps its arguments and leaves every counter at zero. -/
theorem frame_kernel : Cert.quiescent_Kernel := fun m ρ _ => Cert.Kernel.Gen.frame m ρ

/-- The idealized kernel runs, keeps its arguments and leaves every counter at zero. -/
theorem frame_ideal : Cert.quiescent_KernelIdeal := fun m ρ _ => Cert.KernelIdeal.Gen.frame m ρ

/-- The same under the precondition. -/
theorem frame_ideal_pre : Cert.quiescent_KernelIdeal_pre_indices_name_rows := fun m ρ _ => frame_ideal m ρ trivial

/-- The reference runs, keeps its arguments, and has no counter to leave. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_indices_name_rows := fun m ρ _ =>
  frame_reference m ρ trivial

/-- The reference's result is the kernel's, from memories that agree on the arguments and satisfy the precondition. -/
theorem results_eq (m : (ℓ : Loc Cert.KernelIdeal.nD Cert.KernelIdeal.τ Cert.KernelIdeal.sig) → Buf (Elt Ideal) ℓ)
    (c : Dev Cert.KernelIdeal.nD) (hpre : Cert.Pre_KernelIdeal_indices_name_rows m) :
    Cert.ReferenceIdeal.Read.val_main_v33 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      = Cert.Tile.result m c := by
  funext y
  rw [← ix2_eta y]
  have h := fun i => Cert.Indices.named _ _ _ (hpre c) i
  exact (Cert.Reference.result_apply _ _ _ _ _ _ _ _ _ _ _ _ _ _ _ _ _ (fun i => (h i).1) (fun i => (h i).2) _ _).trans
    (Cert.Tile.kernel_apply _ _ _ _ _ _ _ _ _ _ _ _ _ _ _ _ _ _ _).symm

/-- From memories that agree on the arguments and satisfy the precondition, the kernel and the reference both run and
    end with equal results. -/
theorem equal_results : Cert.algebraic_KernelIdeal_ReferenceIdeal_pre_indices_name_rows := by
  intro m ρ m' ρ' hpre hagree
  refine ⟨fun c => Cert.Tile.result m c, ?_, ?_⟩
  · exact (θ_run Cert.KernelIdeal.defs _ _).mono
      (fun _ h c => ⟨(h c).1.trans (Cert.Tile.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq m' c]
    obtain ⟨a0, a1, a2, a3, a4, a5, a6, a7, a8, a9, a10, a11, a12, a13, a14, a15, a16⟩ := hagree c
    rw [a0, a1, a2, a3, a4, a5, a6, a7, a8, a9, a10, a11, a12, a13, a14, a15, a16]
    exact results_eq m c hpre

/-- The whole certificate. -/
theorem claim : Cert.Claim :=
  ⟨Cert.Kernel.Gen.facts, Cert.KernelIdeal.Gen.facts, Cert.ReferenceIdeal.Gen.facts, Cert.Indices.facts,
    frame_kernel, frame_ideal, frame_ideal_pre, frame_reference, frame_reference_pre, trivial, equal_results⟩

end Cert.Proof

end
